-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x16000 : Shape := ⟨3, ![8, 512, 16000]⟩
abbrev S8x512x1 : Shape := ⟨3, ![8, 512, 1]⟩
abbrev S1x512x3200 : Shape := ⟨3, ![1, 512, 3200]⟩
abbrev S1x512x1 : Shape := ⟨3, ![1, 512, 1]⟩
abbrev S2x1 : Shape := ⟨2, ![2, 1]⟩
abbrev S8x3200 : Shape := ⟨2, ![8, 3200]⟩
abbrev S1x16x3200 : Shape := ⟨3, ![1, 16, 3200]⟩
abbrev S16x3200 : Shape := ⟨2, ![16, 3200]⟩
abbrev S2x8x3200 : Shape := ⟨3, ![2, 8, 3200]⟩
abbrev S3200 : Shape := ⟨1, ![3200]⟩
abbrev S1x3200 : Shape := ⟨2, ![1, 3200]⟩
abbrev S2x3200 : Shape := ⟨2, ![2, 3200]⟩
abbrev S2x3199 : Shape := ⟨2, ![2, 3199]⟩
abbrev S2x2 : Shape := ⟨2, ![2, 2]⟩
abbrev S2x3198 : Shape := ⟨2, ![2, 3198]⟩
abbrev S2x4 : Shape := ⟨2, ![2, 4]⟩
abbrev S2x3196 : Shape := ⟨2, ![2, 3196]⟩
abbrev S2x8 : Shape := ⟨2, ![2, 8]⟩
abbrev S2x3192 : Shape := ⟨2, ![2, 3192]⟩
abbrev S2x16 : Shape := ⟨2, ![2, 16]⟩
abbrev S2x3184 : Shape := ⟨2, ![2, 3184]⟩
abbrev S2x32 : Shape := ⟨2, ![2, 32]⟩
abbrev S2x3168 : Shape := ⟨2, ![2, 3168]⟩
abbrev S2x64 : Shape := ⟨2, ![2, 64]⟩
abbrev S2x3136 : Shape := ⟨2, ![2, 3136]⟩
abbrev S2x128 : Shape := ⟨2, ![2, 128]⟩
abbrev S2x3072 : Shape := ⟨2, ![2, 3072]⟩
abbrev S2x256 : Shape := ⟨2, ![2, 256]⟩
abbrev S2x2944 : Shape := ⟨2, ![2, 2944]⟩
abbrev S2x512 : Shape := ⟨2, ![2, 512]⟩
abbrev S2x2688 : Shape := ⟨2, ![2, 2688]⟩
abbrev S2x1024 : Shape := ⟨2, ![2, 1024]⟩
abbrev S2x2176 : Shape := ⟨2, ![2, 2176]⟩
abbrev S2x2048 : Shape := ⟨2, ![2, 2048]⟩
abbrev S2x1152 : Shape := ⟨2, ![2, 1152]⟩
abbrev S1x640 : Shape := ⟨2, ![1, 640]⟩
abbrev S1x64x640 : Shape := ⟨3, ![1, 64, 640]⟩
abbrev S64x640 : Shape := ⟨2, ![64, 640]⟩
abbrev S1x64x1 : Shape := ⟨3, ![1, 64, 1]⟩
abbrev S64x1 : Shape := ⟨2, ![64, 1]⟩

abbrev nBuf : Space → Nat
  | .hbm => 4
  | .vmem => 9
  | .smem => 0
  | _ => 0

abbrev bufTy : (tb : Table) → Fin (tcTables nBuf tb) → BufTy
  | .hbm, ⟨0, _⟩ => ⟨S8x512x16000, .f32⟩
  | .hbm, ⟨1, _⟩ => ⟨S8x512x1, .f32⟩
  | .hbm, ⟨2, _⟩ => ⟨S8x512x1, .f32⟩
  | .hbm, ⟨3, _⟩ => ⟨S8x512x16000, .f32⟩
  | .local _ .vmem, ⟨0, _⟩ => ⟨S1x512x3200, .f32⟩
  | .local _ .vmem, ⟨1, _⟩ => ⟨S1x512x3200, .f32⟩
  | .local _ .vmem, ⟨2, _⟩ => ⟨S1x512x1, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x3200, .f32⟩
  | .local _ .vmem, ⟨7, _⟩ => ⟨S1x512x3200, .f32⟩
  | .local _ .vmem, ⟨8, _⟩ => ⟨S2x1, .f32⟩
  | _, _ => ⟨S8x512x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x512x16000 : Shape := ⟨3, ![8, 512, 16000]⟩
abbrev S8x512x1 : Shape := ⟨3, ![8, 512, 1]⟩
abbrev S16000 : Shape := ⟨1, ![16000]⟩
abbrev S_ : Shape := ⟨0, ![]⟩
abbrev S1x1x16000 : Shape := ⟨3, ![1, 1, 16000]⟩
abbrev S8x16000 : Shape := ⟨2, ![8, 16000]⟩
abbrev S8x1x16000 : Shape := ⟨3, ![8, 1, 16000]⟩

abbrev nBuf : Space → Nat
  | .hbm => 42
  | .vmem => 0
  | .smem => 0
  | _ => 0

abbrev bufTy : (tb : Table) → Fin (tcTables nBuf tb) → BufTy
  | .hbm, ⟨0, _⟩ => ⟨S8x512x16000, .f32⟩
  | .hbm, ⟨1, _⟩ => ⟨S8x512x1, .f32⟩
  | .hbm, ⟨2, _⟩ => ⟨S8x512x1, .f32⟩
  | .hbm, ⟨3, _⟩ => ⟨S16000, .f32⟩
  | .hbm, ⟨4, _⟩ => ⟨S_, .f32⟩
  | .hbm, ⟨5, _⟩ => ⟨S16000, .f32⟩
  | .hbm, ⟨6, _⟩ => ⟨S16000, .f32⟩
  | .hbm, ⟨7, _⟩ => ⟨S_, .f32⟩
  | .hbm, ⟨8, _⟩ => ⟨S16000, .f32⟩
  | .hbm, ⟨9, _⟩ => ⟨S16000, .f32⟩
  | .hbm, ⟨10, _⟩ => ⟨S1x1x16000, .f32⟩
  | .hbm, ⟨11, _⟩ => ⟨S_, .f32⟩
  | .hbm, ⟨12, _⟩ => ⟨S8x16000, .f32⟩
  | .hbm, ⟨13, _⟩ => ⟨S8x1x16000, .f32⟩
  | .hbm, ⟨14, _⟩ => ⟨S_, .f32⟩
  | .hbm, ⟨15, _⟩ => ⟨S_, .f32⟩
  | .hbm, ⟨16, _⟩ => ⟨S8x1x16000, .f32⟩
  | .hbm, ⟨17, _⟩ => ⟨S8x512x16000, .f32⟩
  | .hbm, ⟨18, _⟩ => ⟨S_, .f32⟩
  | .hbm, ⟨19, _⟩ => ⟨S8x16000, .f32⟩
  | .hbm, ⟨20, _⟩ => ⟨S8x1x16000, .f32⟩
  | .hbm, ⟨21, _⟩ => ⟨S_, .f32⟩
  | .hbm, ⟨22, _⟩ => ⟨S_, .f32⟩
  | .hbm, ⟨23, _⟩ => ⟨S8x1x16000, .f32⟩
  | .hbm, ⟨24, _⟩ => ⟨S8x1x16000, .f32⟩
  | .hbm, ⟨25, _⟩ => ⟨S8x1x16000, .f32⟩
  | .hbm, ⟨26, _⟩ => ⟨S8x1x16000, .f32⟩
  | .hbm, ⟨27, _⟩ => ⟨S8x1x16000, .f32⟩
  | .hbm, ⟨28, _⟩ => ⟨S8x1x16000, .f32⟩
  | .hbm, ⟨29, _⟩ => ⟨S8x1x16000, .f32⟩
  | .hbm, ⟨30, _⟩ => ⟨S8x512x16000, .f32⟩
  | .hbm, ⟨31, _⟩ => ⟨S8x512x16000, .f32⟩
  | .hbm, ⟨32, _⟩ => ⟨S8x512x16000, .f32⟩
  | .hbm, ⟨33, _⟩ => ⟨S8x512x16000, .f32⟩
  | .hbm, ⟨34, _⟩ => ⟨S_, .f32⟩
  | .hbm, ⟨35, _⟩ => ⟨S8x1x16000, .f32⟩
  | .hbm, ⟨36, _⟩ => ⟨S8x1x16000, .f32⟩
  | .hbm, ⟨37, _⟩ => ⟨S8x1x16000, .f32⟩
  | .hbm, ⟨38, _⟩ => ⟨S8x512x16000, .f32⟩
  | .hbm, ⟨39, _⟩ => ⟨S8x512x16000, .f32⟩
  | .hbm, ⟨40, _⟩ => ⟨S8x512x16000, .f32⟩
  | .hbm, ⟨41, _⟩ => ⟨S8x512x16000, .f32⟩
  | _, _ => ⟨S8x512x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_call0_call0_cst : Ref sig .tc := ⟨.hbm, 14, rfl⟩
abbrev main_call0_call0_v0 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_call1_call0_cst : Ref sig .tc := ⟨.hbm, 21, rfl⟩
abbrev main_call1_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Scan.lean ====
module

public import Idealize.ShloMosaic.Lib.Pipeline.ValueKit

/-!
  # Prefix sums by doubling

  The kernel sums along a row of 3200 numbers by twelve shifted additions, at the distances 1, 2, 4, …, 2048. Here is
  the arithmetic of it, over functions of the naturals: after the addition at distance `k` each place holds the sum of
  the last `2 k` terms that end there, and as soon as the window is longer than the row that is the whole prefix sum.
-/

@[expose] public section

noncomputable section

namespace Cert.KernelIdeal.ValueProof

/-- The sum of the last `w` terms of `f` that end at `p`, fewer if `p` has fewer predecessors. -/
def lastSum (f : ℕ → EReal) (w p : ℕ) : EReal := ∑ q ∈ Finset.Ico (p + 1 - w) (p + 1), f q

/-- The sum of the terms of `f` up to and including `p`. -/
def upTo (f : ℕ → EReal) (p : ℕ) : EReal := ∑ q ∈ Finset.range (p + 1), f q

/-- A window of one term is that term. -/
theorem lastSum_one (f : ℕ → EReal) (p : ℕ) : lastSum f 1 p = f p := by
  simp [lastSum]

/-- A window of `k` terms and the `k` terms before it make a window of `2 k` terms; at the left end of the row, where
    nothing lies `k` places back, the window already holds everything. -/
theorem lastSum_double (f : ℕ → EReal) (k p : ℕ) :
    (lastSum f k p + if k ≤ p then lastSum f k (p - k) else 0) = lastSum f (k + k) p := by
  unfold lastSum
  split
  · next h =>
    rw [add_comm, show p - k + 1 = p + 1 - k by omega, show p + 1 - (k + k) = p + 1 - k - k by omega]
    exact Finset.sum_Ico_consecutive f (by omega) (by omega)
  · next h => rw [add_zero, show p + 1 - k = 0 by omega, show p + 1 - (k + k) = 0 by omega]

/-- A window longer than what lies to the left is the whole prefix sum. -/
theorem lastSum_all (f : ℕ → EReal) (w p : ℕ) (h : p < w) : lastSum f w p = upTo f p := by
  unfold lastSum upTo
  rw [show p + 1 - w = 0 by omega, Finset.range_eq_Ico]

/-- The prefix sums of a long row, tile by tile: the sum up to place `p` of the tile that begins at `n` is the sum of
    everything before the tile, and the prefix sum inside the tile. -/
theorem upTo_tile (f : ℕ → EReal) (n p : ℕ) :
    upTo f (n + p) = (∑ q ∈ Finset.range n, f q) + upTo (fun q => f (n + q)) p := by
  unfold upTo
  rw [add_assoc, Finset.sum_range_add]

/-- 512 rows taken 16 at a time, each sixteen as two groups of eight: the sum over the place in the group of the sums
    over the groups is the sum over all rows. -/
theorem rows_blocked (g : ℕ → EReal) :
    ∑ h ∈ Finset.range 8, ∑ k ∈ Finset.range 32, ∑ s ∈ Finset.range 2, g (16 * k + (8 * s + h)) =
      ∑ r ∈ Finset.range 512, g r := by
  have split : ∀ (a b : ℕ) (f : ℕ → EReal),
      ∑ k ∈ Finset.range a, ∑ l ∈ Finset.range b, f (b * k + l) = ∑ r ∈ Finset.range (b * a), f r := by
    intro a b f
    induction a with
    | zero => simp
    | succ a ih => rw [Finset.sum_range_succ, ih, Nat.mul_succ, Finset.sum_range_add]
  rw [Finset.sum_comm, show (512 : ℕ) = 16 * 32 by norm_num, ← split 32 16 g]
  refine Finset.sum_congr rfl fun k _ => ?_
  rw [Finset.sum_comm, show (16 : ℕ) = 8 * 2 by norm_num, ← split 2 8 fun l => g (8 * 2 * k + l)]

end Cert.KernelIdeal.ValueProof

end
-- ==== Proof.Rows.lean ====
module

public import proofs.«01_k».proof.Proof.Gen.KernelIdeal.Value
public import proofs.«01_k».proof.Proof.Scan
public import Idealize.ShloMosaic.Lib.Pipeline.ValueKit
public import Idealize.ShloMosaic.Lib.Pipeline.ReadBack

/-!
  # The column sums of one block

  A block holds 512 rows of 3200 numbers. The kernel takes the rows sixteen at a time, as two groups of eight, and adds
  the groups to two arrays of eight rows, one of sums and one of sums of squares; at the end it adds up the eight rows.
  `columns_B` says that what comes out, after the additions at the distances 1 to 512, is the window sums of the
  columns' sums and of their sums of squares.
-/

@[expose] public section

set_option maxRecDepth 16384

noncomputable section

namespace Cert.KernelIdeal.ValueProof

open Cert.KernelIdeal Cert.KernelIdeal.Gen Idealize.ShloMosaic Idealize.ShloMosaic.TcCoe Idealize.SL.Sem

/-- Row `r` of a block at column `p`; zero past the last row, so that rows can be counted by naturals. -/
def rowAt (x : Vec Ideal S1x512x3200 .f32) (p : Fin 3200) (r : ℕ) : EReal :=
  if h : r < 512 then x (ix3 0 ⟨r, h⟩ p) else 0

/-- What is added up: the entry itself, or its square. -/
def power (h : Fin 2) (a : EReal) : EReal := if h = 0 then a else a * a

/-- The sum of a block's column `p`, or of the squares of it; zero past the last column. -/
def colSum (x : Vec Ideal S1x512x3200 .f32) (h : Fin 2) (p : ℕ) : EReal :=
  if hp : p < 3200 then ∑ r : Fin 512, power h (x (ix3 0 r ⟨p, hp⟩)) else 0

/-- The eight-row array `v` holds the sums over the first `n` groups of sixteen rows. -/
def HoldsRows (x : Vec Ideal S1x512x3200 .f32) (h : Fin 2) (n : ℕ) (v : FVec Ideal S8x3200 .f32) : Prop :=
  ∀ (i : Fin 8) (p : Fin 3200), v (ix2 i p) =
    ∑ k ∈ Finset.range n, ∑ s ∈ Finset.range 2, power h (rowAt x p (16 * k + (8 * s + i.val)))

/-- The three-dimensional array `u` holds the entries, or their squares, of sixteen rows from row `o` on. -/
def HoldsGroup (x : Vec Ideal S1x512x3200 .f32) (h : Fin 2) (o : ℕ) (u : FVec Ideal S2x8x3200 .f32) : Prop :=
  ∀ (s : Fin 2) (i : Fin 8) (p : Fin 3200), u (ix3 s i p) = power h (rowAt x p (o + (8 * s.val + i.val)))

/-- The zero array holds the sum over no rows. -/
theorem HoldsRows.start (x : Vec Ideal S1x512x3200 .f32) (h : Fin 2) :
    HoldsRows x h 0 (broadcast S8x3200 (Scalar.ofBits .f32 0x00000000#32 : Ideal .f32)) := by
  intro i p
  pointwise
  simp

/-- One more group of sixteen rows added. -/
theorem HoldsRows.step {x : Vec Ideal S1x512x3200 .f32} {h : Fin 2} {n o : ℕ} {v : FVec Ideal S8x3200 .f32}
    {u : FVec Ideal S2x8x3200 .f32} (ho : o = 16 * n) (hu : HoldsGroup x h o u) (hv : HoldsRows x h n v) :
    HoldsRows x h (n + 1)
      (addf v (multiReduction .add [0] S8x3200 u 0x00000000#32 reduces_S2x8x3200_S8x3200 (.inl rfl) rfl)) := by
  intro i p
  have e : addf v (multiReduction .add [0] S8x3200 u 0x00000000#32 reduces_S2x8x3200_S8x3200 (.inl rfl) rfl) (ix2 i p) =
      v (ix2 i p) + ∑ s : Fin 2, u (ix3 s i p) := by
    pointwise
  rw [e, hv i p, Finset.sum_range_succ]
  congr 1
  rw [Finset.sum_range]
  refine Finset.sum_congr rfl fun s _ => ?_
  rw [hu s i p, ho]

/-- Where the entry of place `i` of group `s` stands among the sixteen rows. -/
theorem group_apply (v : Vec Ideal S1x16x3200 .f32) (s : Fin 2) (i : Fin 8) (p : Fin 3200) :
    shapeCast S2x8x3200 (shapeCast S16x3200 v shapeCasts_S1x16x3200_S16x3200) shapeCasts_S16x3200_S2x8x3200 (ix3 s i p) =
      v (ix3 0 ⟨s.val * 8 + i.val, by omega⟩ p) := by
  pointwise

/-- Sixteen rows loaded from the block and folded to two groups of eight hold those rows. -/
theorem holdsGroup_load (arg2 : Memref sig .tc .vmem S1x512x3200 .f32) (harg2 : arg2.IsWhole)
    (x : Vec Ideal S1x512x3200 .f32) (o : ℕ)
    (h : ∀ a, (![0, o, 0] : Fin 3 → Nat) a + S1x16x3200.size a ≤ S1x512x3200.size a) :
    HoldsGroup x 0 o (shapeCast S2x8x3200 (shapeCast S16x3200
      (View.readAt (Elt Ideal) arg2.view (Rect.unit (s := S1x512x3200) ![0, o, 0] S1x16x3200.size h).toLoadRect
        (harg2.unread x)) shapeCasts_S1x16x3200_S16x3200) shapeCasts_S16x3200_S2x8x3200) := by
  have hb : o + 16 ≤ 512 := h 1
  intro s i p
  have hr : o + (8 * s.val + i.val) < 512 := by omega
  rw [power, if_pos rfl, rowAt, dif_pos hr, group_apply, View.readAt_eq_ld, harg2.read_unread]
  refine congrArg x (funext fun a => Fin.ext ?_)
  fin_cases a <;> simp [Rect.idx_unit_val]
  exact Nat.mul_comm _ _

/-- The squares of the entries of a group. -/
theorem HoldsGroup.square {x : Vec Ideal S1x512x3200 .f32} {o : ℕ} {u : FVec Ideal S2x8x3200 .f32}
    (hu : HoldsGroup x 0 o u) : HoldsGroup x 1 o (mulf u u) := by
  intro s i p
  have e : mulf u u (ix3 s i p) = u (ix3 s i p) * u (ix3 s i p) := by pointwise
  rw [e, hu s i p]
  rfl

/-- After the thirty-two groups the first array of a block holds the sums of all rows. -/
theorem rows_sum_B (c : Dev nD) (arg2 : Memref sig .tc .vmem S1x512x3200 .f32) (harg2 : arg2.IsWhole)
    (x : Vec Ideal S1x512x3200 .f32) : HoldsRows x 0 32 (kernelRun0_B.sl.r_17 c arg2 harg2 x) := by
  iterate 32 refine HoldsRows.step (by rfl) (holdsGroup_load arg2 harg2 x _ _) ?_
  exact HoldsRows.start x 0

/-- After the thirty-two groups the second array of a block holds the sums of all squares. -/
theorem rows_squares_B (c : Dev nD) (arg2 : Memref sig .tc .vmem S1x512x3200 .f32) (harg2 : arg2.IsWhole)
    (x : Vec Ideal S1x512x3200 .f32) :
    HoldsRows x 1 32 (addf (kernelRun0_B.sl.r_16 c arg2 harg2 x)
      (multiReduction .add [0] S8x3200 (kernelRun0_B.sl.r_18 c arg2 harg2 x) 0x00000000#32 reduces_S2x8x3200_S8x3200
        (.inl rfl) rfl)) := by
  iterate 32 refine HoldsRows.step (by rfl) (holdsGroup_load arg2 harg2 x _ _).square ?_
  exact HoldsRows.start x 1

/-- The array `v` of two rows holds, at each place, the sum of the last `w` terms of `f` that end there. -/
def HoldsLast (f : Fin 2 → ℕ → EReal) (w : ℕ) (v : FVec Ideal S2x3200 .f32) : Prop :=
  ∀ (h : Fin 2) (p : Fin 3200), v (ix2 h p) = lastSum (f h) w p.val

/-- The eight rows of the two arrays added up are the sums of the columns and of their squares. -/
theorem HoldsLast.start {x : Vec Ideal S1x512x3200 .f32} {a b : FVec Ideal S8x3200 .f32} (ha : HoldsRows x 0 32 a)
    (hb : HoldsRows x 1 32 b) :
    HoldsLast (colSum x) 1 (concatenate S2x3200 0
      [⟨S1x3200, shapeCast S1x3200 (multiReduction .add [0] S3200 a 0x00000000#32 reduces_S8x3200_S3200 (.inl rfl) rfl)
        shapeCasts_S3200_S1x3200⟩,
       ⟨S1x3200, shapeCast S1x3200 (multiReduction .add [0] S3200 b 0x00000000#32 reduces_S8x3200_S3200 (.inl rfl) rfl)
        shapeCasts_S3200_S1x3200⟩] concatenates_S1x3200_S1x3200_S2x3200_d0) := by
  have total : ∀ (h : Fin 2) (p : Fin 3200) (v : FVec Ideal S8x3200 .f32), HoldsRows x h 32 v →
      ∑ i : Fin 8, v (ix2 i p) = lastSum (colSum x h) 1 p.val := by
    intro h p v hv
    rw [lastSum_one, colSum, dif_pos p.isLt, Finset.sum_congr rfl fun i _ => hv i p,
      ← Finset.sum_range fun i => ∑ k ∈ Finset.range 32, ∑ s ∈ Finset.range 2, power h (rowAt x p (16 * k + (8 * s + i))),
      rows_blocked fun r => power h (rowAt x p r), Finset.sum_range]
    exact Finset.sum_congr rfl fun r _ => by rw [rowAt, dif_pos r.isLt]
  intro h p
  fin_cases h
  · refine Eq.trans ?_ (total 0 p a ha)
    pointwise
  · refine Eq.trans ?_ (total 1 p b hb)
    pointwise

/-- One shifted addition doubles the window. The shifted copy is `k` zeros and then the first `m = 3200 - k` places. -/
theorem HoldsLast.double {f : Fin 2 → ℕ → EReal} (k m : ℕ) {w : ℕ} {v : FVec Ideal S2x3200 .f32} (hv : HoldsLast f k v)
    (hm : k + m = 3200) (hw : w = k + k) (hs : S2x3200.Slices ![0, 0] ⟨2, ![2, m]⟩)
    (hc : Shape.Concatenates [⟨2, ![2, k]⟩, ⟨2, ![2, m]⟩] S2x3200 1) :
    HoldsLast f w (addf v (concatenate S2x3200 1
      [⟨⟨2, ![2, k]⟩, broadcast ⟨2, ![2, k]⟩ (Scalar.ofBits .f32 0x00000000#32 : Ideal .f32)⟩,
       ⟨⟨2, ![2, m]⟩, extractStridedSlice ⟨2, ![2, m]⟩ ![0, 0] v hs⟩] hc)) := by
  intro h p
  subst hw
  have shifted : concatenate S2x3200 1
      [⟨⟨2, ![2, k]⟩, broadcast ⟨2, ![2, k]⟩ (Scalar.ofBits .f32 0x00000000#32 : Ideal .f32)⟩,
       ⟨⟨2, ![2, m]⟩, extractStridedSlice ⟨2, ![2, m]⟩ ![0, 0] v hs⟩] hc (ix2 h p) =
      if k ≤ p.val then lastSum (f h) k (p.val - k) else 0 := by
    split
    · next hk =>
      have hlt : p.val - k < m := by omega
      rw [concatenate_pair_apply_right 1 _ _ hc (ix2 h p) rfl rfl (ix2 h ⟨p.val - k, hlt⟩)
        (fun b hb => by fin_cases b <;> simp_all) (by simp; omega),
        extractStridedSlice_apply _ v hs _ (ix2 h ⟨p.val - k, by omega⟩) (fun b => by fin_cases b <;> simp)]
      exact hv h _
    · next hk =>
      rw [concatenate_pair_apply_left 1 _ _ hc (ix2 h p) rfl (ix2 h ⟨p.val, by omega⟩)
        (fun b => by fin_cases b <;> simp)]
      exact Ideal.ofBits_zero_f32
  rw [← lastSum_double, ← hv h p, ← shifted]
  rfl

/-- After the additions at the distances 1 to 512 a block's columns are summed over windows of 1024. -/
theorem columns_B (c : Dev nD) (arg2 : Memref sig .tc .vmem S1x512x3200 .f32) (harg2 : arg2.IsWhole)
    (x : Vec Ideal S1x512x3200 .f32) : HoldsLast (colSum x) 1024 (kernelRun0_B.sl.r_19 c arg2 harg2 x) := by
  refine HoldsLast.double 512 2688 ?_ (by rfl) (by rfl) _ _
  refine HoldsLast.double 256 2944 ?_ (by rfl) (by rfl) _ _
  refine HoldsLast.double 128 3072 ?_ (by rfl) (by rfl) _ _
  refine HoldsLast.double 64 3136 ?_ (by rfl) (by rfl) _ _
  refine HoldsLast.double 32 3168 ?_ (by rfl) (by rfl) _ _
  refine HoldsLast.double 16 3184 ?_ (by rfl) (by rfl) _ _
  refine HoldsLast.double 8 3192 ?_ (by rfl) (by rfl) _ _
  refine HoldsLast.double 4 3196 ?_ (by rfl) (by rfl) _ _
  refine HoldsLast.double 2 3198 ?_ (by rfl) (by rfl) _ _
  refine HoldsLast.double 1 3199 ?_ (by rfl) (by rfl) _ _
  exact HoldsLast.start (rows_sum_B c arg2 harg2 x) (rows_squares_B c arg2 harg2 x)

/-- The first block of a batch sums its columns as the others do. -/
theorem columns_A (c : Dev nD) (arg2 : Memref sig .tc .vmem S1x512x3200 .f32) (harg2 : arg2.IsWhole)
    (x : Vec Ideal S1x512x3200 .f32) : HoldsLast (colSum x) 1024 (kernelRun0_A.sl.r_19 c arg2 harg2 x) :=
  columns_B c arg2 harg2 x

end Cert.KernelIdeal.ValueProof

end
-- ==== Proof.Spec.lean ====
module

public import proofs.«01_k».proof.Proof.Scan
public import Idealize.ShloMosaic.Lib.IdealHost
public import Idealize.ShloMosaic.Lib.Pointwise

/-!
  # One normalised number

  Cumulative layer normalisation at frame `n` (counted from zero): the mean and the variance are over the `512 (n + 1)`
  numbers of all channels in the frames up to and including `n`. Here are the mean, the reciprocal standard deviation
  and the normalised number as functions of the running sum, the running sum of squares and `n`.
-/

@[expose] public section

noncomputable section

namespace Cert.KernelIdeal.ValueProof

open Idealize.ShloMosaic

/-- How many numbers the statistics of frame `n` are over. -/
def count (n : ℕ) : EReal := (((n : ℝ) + 1) * 512 : ℝ)

/-- The running mean. -/
def meanOf (s : EReal) (n : ℕ) : EReal := Ideal.div s (count n)

/-- The reciprocal of the running standard deviation, the variance being the mean square less the squared mean. -/
def rstdOf (s q : EReal) (n : ℕ) : EReal :=
  Ideal.rsqrt (meanOf q n - meanOf s n * meanOf s n + Ideal.ofBits .f32 0x322BCC77#32)

/-- The number `x` normalised, with gain `g` and bias `b`. -/
def normOf (x s q : EReal) (n : ℕ) (g b : EReal) : EReal := (x - meanOf s n) * rstdOf s q n * g + b

/-- The count is not zero. -/
theorem count_ne_zero (n : ℕ) : count n ≠ 0 := by
  unfold count
  have : (((n : ℝ) + 1) * 512 : ℝ) ≠ 0 := by positivity
  exact_mod_cast this

/-- Multiplying by the reciprocal of the count, as the kernel does, is dividing by the count, as the reference does. -/
theorem mul_reciprocal (s : EReal) (n : ℕ) : s * Ideal.div 1 (count n) = meanOf s n :=
  Ideal.mul_one_div (count_ne_zero n)

/-- The number 512 as the programs write it. -/
theorem channels_bits : Ideal.ofBits .f32 0x44000000#32 = ((512 : ℝ) : EReal) := by
  simp [Ideal.ofBits, Ideal.ieee]
  rw [← EReal.coe_mul]
  norm_num

/-- The number 1 as the programs write it. -/
theorem one_bits : Ideal.ofBits .f32 0x3F800000#32 = (1 : EReal) := by
  simp

/-- A word that holds a natural below `2 ^ 31`, read as a signed integer. -/
theorem toInt_word (n : ℕ) (h : n < 2 ^ 31) : (BitVec.ofNat 32 n).toInt = (n : ℤ) := by
  have e : (BitVec.ofNat 32 n).toNat = n := by rw [BitVec.toNat_ofNat]; omega
  rw [BitVec.toInt_eq_toNat_of_lt (by omega), e]

/-- The count as the kernel computes it: the place in the tile, and the number of the tile's first frame counted from
    one, each as a word. -/
theorem count_kernel (j p : ℕ) (hj : j < 5) (hp : p < 3200) :
    ((((BitVec.ofNat 32 p).toInt : ℝ) : EReal) +
        (((BitVec.ofNat 32 j * 3200#32 + 1#32).toInt : ℝ) : EReal)) * Ideal.ofBits .f32 0x44000000#32 =
      count (3200 * j + p) := by
  have e : BitVec.ofNat 32 j * 3200#32 + 1#32 = BitVec.ofNat 32 (3200 * j + 1) := by
    rw [Nat.mul_comm, BitVec.ofNat_add, BitVec.ofNat_mul]
  rw [e, toInt_word p (by omega), toInt_word (3200 * j + 1) (by omega), channels_bits, count,
    ← EReal.coe_add, ← EReal.coe_mul]
  refine congrArg _ ?_
  push_cast
  ring

/-- The count as the reference computes it: the frame's number, as a word, and one. -/
theorem count_reference (n : ℕ) (hn : n < 16000) :
    ((1 : EReal) + (((BitVec.ofNat 32 n).toInt : ℝ) : EReal)) * Ideal.ofBits .f32 0x44000000#32 = count n := by
  rw [toInt_word n (by omega), channels_bits, count, ← EReal.coe_one, ← EReal.coe_add, ← EReal.coe_mul]
  refine congrArg _ ?_
  push_cast
  ring

end Cert.KernelIdeal.ValueProof

end
-- ==== Proof.Block.lean ====
module

public import proofs.«01_k».proof.Proof.Rows
public import proofs.«01_k».proof.Proof.Spec

/-!
  # What one block computes

  Given what the block before carries over — the sum and the sum of squares of everything earlier in the batch — one
  block writes its numbers normalised, and carries over the sums with its own columns added.
-/

@[expose] public section

set_option maxRecDepth 16384

noncomputable section

namespace Cert.KernelIdeal.ValueProof

open Cert.KernelIdeal Cert.KernelIdeal.Gen Idealize.ShloMosaic Idealize.ShloMosaic.TcCoe Idealize.SL.Sem

/-- The running sum (`h = 0`) or the running sum of squares (`h = 1`) at column `p` of a block `x`, where `xs` is what
    the block before carries over. -/
def total (x : Vec Ideal S1x512x3200 .f32) (xs : Vec Ideal S2x1 .f32) (h : Fin 2) (p : ℕ) : EReal :=
  xs (ix2 h 0) + upTo (colSum x h) p

/-- The last two shifted additions make the window longer than the row, and the carried sums are added. -/
theorem running_apply {x : Vec Ideal S1x512x3200 .f32} {v : FVec Ideal S2x3200 .f32} (hv : HoldsLast (colSum x) 1024 v)
    (xs : Vec Ideal S2x1 .f32) (h : Fin 2) (p : Fin 3200) :
    k0_pay54 v (Scalar.ofBits .f32 0x00000000#32 : Ideal .f32) xs (ix2 h p) = total x xs h p.val := by
  have last := (((hv.double 1024 2176 (by rfl) (by rfl) slices_S2x3200_o0_0_S2x2176
    concatenates_S2x1024_S2x2176_S2x3200_d1).double 2048 1152 (by rfl) (by rfl) slices_S2x3200_o0_0_S2x1152
    concatenates_S2x2048_S2x1152_S2x3200_d1) h p).trans (lastSum_all _ _ _ (by omega))
  rw [total, add_comm, ← last]
  have carried : broadcastTo S2x3200 xs broadcasts_S2x1_S2x3200 (ix2 h p) = xs (ix2 h 0) := by pointwise
  rw [← carried]
  rfl

/-- What a block carries over: the running sums at its last column. -/
theorem carry_apply {x : Vec Ideal S1x512x3200 .f32} {v : FVec Ideal S2x3200 .f32} (hv : HoldsLast (colSum x) 1024 v)
    (xs : Vec Ideal S2x1 .f32) (h : Fin 2) :
    k0_pay55 v (Scalar.ofBits .f32 0x00000000#32 : Ideal .f32) xs (ix2 h 0) = total x xs h 3199 := by
  rw [← running_apply hv xs h ⟨3199, by omega⟩]
  pointwise [k0_pay55]

/-- The reciprocal of the count. -/
theorem reciprocal_apply (j : ℕ) (hj : j < 5) (p : Fin 3200) :
    k0_pay56 (F := Ideal) (BitVec.ofNat 32 j) (ix2 0 p) = Ideal.div 1 (count (3200 * j + p.val)) := by
  rw [← count_kernel j p.val hj p.isLt, ← one_bits]
  pointwise [k0_pay56]
  rfl

/-- The running mean. -/
theorem mean_apply {x : Vec Ideal S1x512x3200 .f32} {v : FVec Ideal S2x3200 .f32} (hv : HoldsLast (colSum x) 1024 v)
    (xs : Vec Ideal S2x1 .f32) (j : ℕ) (hj : j < 5) (p : Fin 3200) :
    k0_pay57 (BitVec.ofNat 32 j) v (Scalar.ofBits .f32 0x00000000#32 : Ideal .f32) xs (ix2 0 p) =
      meanOf (total x xs 0 p.val) (3200 * j + p.val) := by
  rw [← mul_reciprocal, ← reciprocal_apply j hj p, ← running_apply hv xs 0 p]
  pointwise [k0_pay57]

/-- The reciprocal standard deviation. -/
theorem rstd_apply {x : Vec Ideal S1x512x3200 .f32} {v : FVec Ideal S2x3200 .f32} (hv : HoldsLast (colSum x) 1024 v)
    (xs : Vec Ideal S2x1 .f32) (j : ℕ) (hj : j < 5) (p : Fin 3200) :
    k0_pay58 (BitVec.ofNat 32 j) v (Scalar.ofBits .f32 0x00000000#32 : Ideal .f32) xs (ix2 0 p) =
      rstdOf (total x xs 0 p.val) (total x xs 1 p.val) (3200 * j + p.val) := by
  rw [rstdOf, ← mean_apply hv xs j hj p, ← mul_reciprocal, ← reciprocal_apply j hj p, ← running_apply hv xs 1 p]
  pointwise [k0_pay58]

/-- The block with its number at row `r`, column `p` normalised by the given rows of means and of reciprocal
    standard deviations and the given columns of gains and biases. -/
def applied (x : Vec Ideal S1x512x3200 .f32) (g b : Vec Ideal S1x512x1 .f32) (mean rstd : FVec Ideal S1x3200 .f32) :
    Vec Ideal S1x512x3200 .f32 := fun y =>
  (x y - mean (ix2 0 (y 2))) * rstd (ix2 0 (y 2)) * g (ix3 0 (y 1) 0) + b (ix3 0 (y 1) 0)

/-- One of the kernel's forty stores: 64 rows from row `o` and 640 columns from column `q`. -/
theorem store_apply (x : Vec Ideal S1x512x3200 .f32) (g b : Vec Ideal S1x512x1 .f32)
    (mean rstd : FVec Ideal S1x3200 .f32) (o q : ℕ)
    (hq : S1x3200.Slices ![0, q] S1x640)
    (hx : ∀ a, (![0, o, q] : Fin 3 → Nat) a + S1x64x640.size a ≤ S1x512x3200.size a)
    (hg : ∀ a, (![0, o, 0] : Fin 3 → Nat) a + S1x64x1.size a ≤ S1x512x1.size a) (y : S1x64x640.Idx) :
    shapeCast S1x64x640 (addf (mulf (mulf (subf
        (shapeCast S64x640 (View.ld x (Rect.unit (s := S1x512x3200) ![0, o, q] S1x64x640.size hx)) shapeCasts_S1x64x640_S64x640)
        (broadcastTo S64x640 (extractStridedSlice S1x640 ![0, q] mean hq) broadcasts_S1x640_S64x640))
        (broadcastTo S64x640 (extractStridedSlice S1x640 ![0, q] rstd hq) broadcasts_S1x640_S64x640))
        (broadcastTo S64x640 (shapeCast S64x1 (View.ld g (Rect.unit (s := S1x512x1) ![0, o, 0] S1x64x1.size hg))
          shapeCasts_S1x64x1_S64x1) broadcasts_S64x1_S64x640))
        (broadcastTo S64x640 (shapeCast S64x1 (View.ld b (Rect.unit (s := S1x512x1) ![0, o, 0] S1x64x1.size hg))
          shapeCasts_S1x64x1_S64x1) broadcasts_S64x1_S64x640)) shapeCasts_S64x640_S1x64x640 y =
      applied x g b mean rstd ((Rect.unit (s := S1x512x3200) ![0, o, q] S1x64x640.size hx).idx y) := by
  pointwise [applied]

/-- The same store as the kernel writes it, its three operands loaded from the buffers that hold the blocks. -/
def stored (arg2 : Memref sig .tc .vmem S1x512x3200 .f32) (harg2 : arg2.IsWhole)
    (arg3 : Memref sig .tc .vmem S1x512x1 .f32) (harg3 : arg3.IsWhole) (arg4 : Memref sig .tc .vmem S1x512x1 .f32)
    (harg4 : arg4.IsWhole) (x : Vec Ideal S1x512x3200 .f32) (g b : Vec Ideal S1x512x1 .f32)
    (mean rstd : FVec Ideal S1x3200 .f32) (o q : ℕ) (hq : S1x3200.Slices ![0, q] S1x640)
    (hx : ∀ a, (![0, o, q] : Fin 3 → Nat) a + S1x64x640.size a ≤ S1x512x3200.size a)
    (hg : ∀ a, (![0, o, 0] : Fin 3 → Nat) a + S1x64x1.size a ≤ S1x512x1.size a) : Vec Ideal S1x64x640 .f32 :=
  shapeCast S1x64x640 (addf (mulf (mulf (subf
        (shapeCast S64x640 (View.readAt (Elt Ideal) arg2.view
          (Rect.unit (s := S1x512x3200) ![0, o, q] S1x64x640.size hx).toLoadRect (harg2.unread x))
          shapeCasts_S1x64x640_S64x640)
        (broadcastTo S64x640 (extractStridedSlice S1x640 ![0, q] mean hq) broadcasts_S1x640_S64x640))
        (broadcastTo S64x640 (extractStridedSlice S1x640 ![0, q] rstd hq) broadcasts_S1x640_S64x640))
        (broadcastTo S64x640 (shapeCast S64x1 (View.readAt (Elt Ideal) arg3.view
          (Rect.unit (s := S1x512x1) ![0, o, 0] S1x64x1.size hg).toLoadRect (harg3.unread g))
          shapeCasts_S1x64x1_S64x1) broadcasts_S64x1_S64x640))
        (broadcastTo S64x640 (shapeCast S64x1 (View.readAt (Elt Ideal) arg4.view
          (Rect.unit (s := S1x512x1) ![0, o, 0] S1x64x1.size hg).toLoadRect (harg4.unread b))
          shapeCasts_S1x64x1_S64x1) broadcasts_S64x1_S64x640)) shapeCasts_S64x640_S1x64x640

/-- A store that is a block of the normalised block, in front of others that are. -/
theorem stored_cons (arg2 : Memref sig .tc .vmem S1x512x3200 .f32) (harg2 : arg2.IsWhole)
    (arg3 : Memref sig .tc .vmem S1x512x1 .f32) (harg3 : arg3.IsWhole) (arg4 : Memref sig .tc .vmem S1x512x1 .f32)
    (harg4 : arg4.IsWhole) (x : Vec Ideal S1x512x3200 .f32) (g b : Vec Ideal S1x512x1 .f32)
    (mean rstd : FVec Ideal S1x3200 .f32) (o q : ℕ) (hq : S1x3200.Slices ![0, q] S1x640)
    (hx : ∀ a, (![0, o, q] : Fin 3 → Nat) a + S1x64x640.size a ≤ S1x512x3200.size a)
    (hg : ∀ a, (![0, o, 0] : Fin 3 → Nat) a + S1x64x1.size a ≤ S1x512x1.size a)
    (w : Vec Ideal S1x64x640 .f32) (hw : w = stored arg2 harg2 arg3 harg3 arg4 harg4 x g b mean rstd o q hq hx hg)
    {L : List (View.Piece (Elt Ideal) S1x512x3200 .f32)} (hL : View.PiecesOf (applied x g b mean rstd) L) :
    View.PiecesOf (applied x g b mean rstd) (⟨Rect.unit (s := S1x512x3200) ![0, o, q] S1x64x640.size hx, w⟩ :: L) := by
  refine ⟨fun y => ?_, hL⟩
  subst hw
  unfold stored
  rw [View.readAt_eq_ld, View.readAt_eq_ld, View.readAt_eq_ld, harg2.read_unread, harg3.read_unread, harg4.read_unread]
  exact store_apply x g b mean rstd o q hq hx hg y

/-- One block's numbers normalised: `j` is the number of the block in its batch, `xs` what is carried over to it. -/
def blockOut (x : Vec Ideal S1x512x3200 .f32) (g b : Vec Ideal S1x512x1 .f32) (xs : Vec Ideal S2x1 .f32) (j : ℕ) :
    Vec Ideal S1x512x3200 .f32 := fun y =>
  normOf (x y) (total x xs 0 (y 2).val) (total x xs 1 (y 2).val) (3200 * j + (y 2).val) (g (ix3 0 (y 1) 0))
    (b (ix3 0 (y 1) 0))

/-- What one block carries over to the next. -/
def blockCarry (x : Vec Ideal S1x512x3200 .f32) (xs : Vec Ideal S2x1 .f32) : Vec Ideal S2x1 .f32 := fun y =>
  total x xs (y 0) 3199

/-- Nothing carried over: the sums at the beginning of a batch. -/
def noCarry : Vec Ideal S2x1 .f32 := fun _ => 0

/-- The rows of means and reciprocal standard deviations applied are the block normalised. -/
theorem applied_eq {x : Vec Ideal S1x512x3200 .f32} {v : FVec Ideal S2x3200 .f32} (hv : HoldsLast (colSum x) 1024 v)
    (g b : Vec Ideal S1x512x1 .f32) (xs : Vec Ideal S2x1 .f32) (j : ℕ) (hj : j < 5) :
    applied x g b (k0_pay57 (BitVec.ofNat 32 j) v (Scalar.ofBits .f32 0x00000000#32 : Ideal .f32) xs)
      (k0_pay58 (BitVec.ofNat 32 j) v (Scalar.ofBits .f32 0x00000000#32 : Ideal .f32) xs) = blockOut x g b xs j := by
  funext y
  have hm := mean_apply hv xs j hj (y 2)
  have hr := rstd_apply hv xs j hj (y 2)
  unfold applied blockOut normOf
  rw [hm, hr]

/-- What the carry buffer holds, read back whole. -/
theorem read_carry (arg6 : Memref sig .tc .vmem S2x1 .f32) (harg6 : arg6.IsWhole) (xs : Vec Ideal S2x1 .f32) :
    View.readAt (Elt Ideal) arg6.view (Rect.unit (s := S2x1) ![0, 0] S2x1.size inb_S2x1_S2x1_0_0).toLoadRect
      (harg6.unread xs) = xs := by
  rw [View.readAt_eq_ld, harg6.read_unread]
  funext y
  refine congrArg xs (funext fun a => Fin.ext ?_)
  fin_cases a <;> simp [Rect.idx_unit_val]

/-- The carry buffer read back after it was cleared. -/
theorem read_cleared (c : Dev nD) (arg6 : Memref sig .tc .vmem S2x1 .f32) :
    kernelRun0_A.sl.v314 (F := Ideal) c arg6 = noCarry := by
  unfold kernelRun0_A.sl.v314 kernelRun0_A.sl.HS0_1
  rw [View.readCov_unit_lit _ inb_S2x1_S2x1_0_0 _ (by decide)]
  funext y
  exact Ideal.ofBits_zero_f32

/-- The stores of a block that is not the first of its batch. -/
theorem pieces_B (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : ¬cond0_0 i) (x : Vec Ideal S1x512x3200 .f32) (g b : Vec Ideal S1x512x1 .f32) (xs : Vec Ideal S2x1 .f32) :
    View.PiecesOf (Val := Elt Ideal)
      (applied x g b (kernelRun0_B.sl.r_20 c i arg2 harg2 arg6 harg6 x xs) (kernelRun0_B.sl.r_21 c i arg2 harg2 arg6 harg6 x xs))
      (kernelRun0_B c i arg2 harg2 arg3 harg3 arg4 harg4 arg5 harg5 arg6 harg6 hc0 x g b xs).1 := by
  unfold kernelRun0_B
  dsimp only
  iterate 40 refine stored_cons arg2 harg2 arg3 harg3 arg4 harg4 x g b _ _ _ _ (by decide) _ (by decide) _ (by rfl) ?_
  trivial

/-- A block that is not the first of its batch, normalised with the statistics that continue what is carried over to it. -/
theorem out_B (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : ¬cond0_0 i) (x : Vec Ideal S1x512x3200 .f32) (g b : Vec Ideal S1x512x1 .f32) (xs : Vec Ideal S2x1 .f32) :
    out0_B_3 c i arg2 harg2 arg3 harg3 arg4 harg4 arg5 harg5 arg6 harg6 hc0 x g b xs = blockOut x g b xs (i 1).val := by
  have e := applied_eq (columns_B c arg2 harg2 x) g b xs (i 1).val (i 1).isLt
  rw [← e]
  funext y
  have h := View.canon_append_of_piecesOf _ [] _
    (pieces_B c i arg2 harg2 arg3 harg3 arg4 harg4 arg5 harg5 arg6 harg6 hc0 x g b xs) y
    (cover0_B_3 c i arg2 harg2 arg3 harg3 arg4 harg4 arg5 harg5 arg6 harg6 hc0 x g b xs y)
  rw [List.append_nil] at h
  unfold out0_B_3
  rw [View.read_writes_junk_eq_canon, h]
  unfold kernelRun0_B.sl.r_20 kernelRun0_B.sl.r_21
  rw [read_carry arg6 harg6 xs]
  rfl

/-- What a block that is not the first of its batch carries over. -/
theorem carry_B (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : ¬cond0_0 i) (x : Vec Ideal S1x512x3200 .f32) (g b : Vec Ideal S1x512x1 .f32) (xs : Vec Ideal S2x1 .f32) :
    sout0_B_0 c i arg2 harg2 arg3 harg3 arg4 harg4 arg5 harg5 arg6 harg6 hc0 x g b xs = blockCarry x xs := by
  unfold sout0_B_0
  rw [View.read_writes_junk_eq_canon]
  unfold kernelRun0_B
  dsimp only
  rw [View.canon_cons_unit_lit inb_S2x1_S2x1_0_0 _ _ (by decide), read_carry arg6 harg6 xs]
  funext y
  have hy : y = ix2 (y 0) 0 := by
    funext a
    fin_cases a
    · rfl
    · exact Subsingleton.elim (α := Fin 1) _ _
  rw [hy]
  exact carry_apply (columns_B c arg2 harg2 x) xs (y 0)

/-- The stores of the first block of a batch. -/
theorem pieces_A (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : cond0_0 i) (x : Vec Ideal S1x512x3200 .f32) (g b : Vec Ideal S1x512x1 .f32) :
    View.PiecesOf (Val := Elt Ideal)
      (applied x g b (kernelRun0_A.sl.r_20 c i arg2 harg2 arg6 x) (kernelRun0_A.sl.r_21 c i arg2 harg2 arg6 x))
      (kernelRun0_A c i arg2 harg2 arg3 harg3 arg4 harg4 arg5 harg5 arg6 harg6 hc0 x g b).1 := by
  unfold kernelRun0_A
  dsimp only
  iterate 40 refine stored_cons arg2 harg2 arg3 harg3 arg4 harg4 x g b _ _ _ _ (by decide) _ (by decide) _ (by rfl) ?_
  trivial

/-- The first block of a batch, normalised with its own statistics. -/
theorem out_A (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : cond0_0 i) (x : Vec Ideal S1x512x3200 .f32) (g b : Vec Ideal S1x512x1 .f32) :
    out0_A_3 c i arg2 harg2 arg3 harg3 arg4 harg4 arg5 harg5 arg6 harg6 hc0 x g b = blockOut x g b noCarry (i 1).val := by
  have e := applied_eq (columns_A c arg2 harg2 x) g b noCarry (i 1).val (i 1).isLt
  rw [← e]
  funext y
  have h := View.canon_append_of_piecesOf _ [] _
    (pieces_A c i arg2 harg2 arg3 harg3 arg4 harg4 arg5 harg5 arg6 harg6 hc0 x g b) y
    (cover0_A_3 c i arg2 harg2 arg3 harg3 arg4 harg4 arg5 harg5 arg6 harg6 hc0 x g b y)
  rw [List.append_nil] at h
  unfold out0_A_3
  rw [View.read_writes_junk_eq_canon, h]
  unfold kernelRun0_A.sl.r_20 kernelRun0_A.sl.r_21
  rw [read_cleared c arg6]
  rfl

/-- What the first block of a batch carries over. -/
theorem carry_A (c : Dev nD) (i : grid0.Coords) (arg2 : Memref sig .tc .vmem S1x512x3200 .f32)
    (harg2 : arg2.IsWhole) (arg3 : Memref sig .tc .vmem S1x512x1 .f32) (harg3 : arg3.IsWhole)
    (arg4 : Memref sig .tc .vmem S1x512x1 .f32) (harg4 : arg4.IsWhole) (arg5 : Memref sig .tc .vmem S1x512x3200 .f32)
    (harg5 : arg5.IsWhole) (arg6 : Memref sig .tc .vmem S2x1 .f32) (harg6 : arg6.IsWhole)
    (hc0 : cond0_0 i) (x : Vec Ideal S1x512x3200 .f32) (g b : Vec Ideal S1x512x1 .f32) :
    sout0_A_0 c i arg2 harg2 arg3 harg3 arg4 harg4 arg5 harg5 arg6 harg6 hc0 x g b = blockCarry x noCarry := by
  unfold sout0_A_0
  rw [View.read_writes_junk_eq_canon]
  unfold kernelRun0_A
  dsimp only
  rw [View.canon_cons_unit_lit inb_S2x1_S2x1_0_0 _ _ (by decide), read_cleared c arg6]
  funext y
  have hy : y = ix2 (y 0) 0 := by
    funext a
    fin_cases a
    · rfl
    · exact Subsingleton.elim (α := Fin 1) _ _
  rw [hy]
  exact carry_apply (columns_A c arg2 harg2 x) noCarry (y 0)

end Cert.KernelIdeal.ValueProof

end
-- ==== Proof.Array.lean ====
module

public import proofs.«01_k».proof.Proof.Block

/-!
  # What the array holds

  The grid goes through the batches one after the other, and through the five blocks of a batch from left to right.
  What is carried over to a block is the sum, and the sum of squares, of all columns of the batch to the left of it
  (`carried`), so that the result at every place is the number there normalised with the statistics of all frames up to
  and including its own (`result_apply`).
-/

@[expose] public section

set_option maxRecDepth 16384

noncomputable section

namespace Cert.KernelIdeal.ValueProof

open Cert.KernelIdeal Cert.KernelIdeal.Gen Cert.KernelIdeal.Value Idealize.ShloMosaic Idealize.ShloMosaic.TcCoe
open Idealize.SL.Sem

/-- The sum over the channels of batch `b` at frame `q`, or the sum of their squares; zero past the last frame. -/
def frameSum (X : Vec Ideal S8x512x16000 .f32) (b : Fin 8) (h : Fin 2) (q : ℕ) : EReal :=
  if hq : q < 16000 then ∑ r : Fin 512, power h (X (ix3 b r ⟨q, hq⟩)) else 0

/-- The specification: the number at batch `b`, channel `r`, frame `q` normalised with the statistics of all frames up
    to `q`, with the channel's gain and bias. -/
def normalised (X : Vec Ideal S8x512x16000 .f32) (G B : Vec Ideal S8x512x1 .f32) : Vec Ideal S8x512x16000 .f32 := fun i =>
  normOf (X i) (upTo (frameSum X (i 0) 0) (i 2).val) (upTo (frameSum X (i 0) 1) (i 2).val) (i 2).val
    (G (ix3 (i 0) (i 1) 0)) (B (ix3 (i 0) (i 1) 0))

/-- What has been summed before block `j` of batch `b`. -/
def before (X : Vec Ideal S8x512x16000 .f32) (b : Fin 8) (j : ℕ) : Vec Ideal S2x1 .f32 := fun y =>
  ∑ q ∈ Finset.range (3200 * j), frameSum X b (y 0) q

/-- Nothing has been summed before the first block. -/
theorem before_zero (X : Vec Ideal S8x512x16000 .f32) (b : Fin 8) : before X b 0 = noCarry := by
  funext y
  simp [before, noCarry]

/-- `x` is block `j` of batch `b` of the array `X`. -/
def IsBlock (X : Vec Ideal S8x512x16000 .f32) (b : Fin 8) (j : ℕ) (x : Vec Ideal S1x512x3200 .f32) : Prop :=
  ∀ (r : Fin 512) (p : Fin 3200) (h : 3200 * j + p.val < 16000), x (ix3 0 r p) = X (ix3 b r ⟨3200 * j + p.val, h⟩)

/-- The running sums inside a block are those of the whole batch. -/
theorem total_eq {X : Vec Ideal S8x512x16000 .f32} {b : Fin 8} {j : ℕ} {x : Vec Ideal S1x512x3200 .f32} (hj : j < 5)
    (hx : IsBlock X b j x) (h : Fin 2) (p : ℕ) (hp : p < 3200) :
    total x (before X b j) h p = upTo (frameSum X b h) (3200 * j + p) := by
  rw [upTo_tile]
  refine congrArg _ (Finset.sum_congr rfl fun q hq => ?_)
  have hq' : q < 3200 := by have := Finset.mem_range.mp hq; omega
  change colSum x h q = frameSum X b h (3200 * j + q)
  rw [colSum, dif_pos hq', frameSum, dif_pos (by omega)]
  exact Finset.sum_congr rfl fun r _ => by rw [hx r ⟨q, hq'⟩ (by dsimp only; omega)]

/-- A block carries over what has been summed before the next. -/
theorem blockCarry_eq {X : Vec Ideal S8x512x16000 .f32} {b : Fin 8} {j : ℕ} {x : Vec Ideal S1x512x3200 .f32} (hj : j < 5)
    (hx : IsBlock X b j x) : blockCarry x (before X b j) = before X b (j + 1) := by
  funext y
  exact total_eq hj hx (y 0) 3199 (by omega)

/-- A block is normalised with the statistics of the whole batch up to each frame. -/
theorem blockOut_apply {X : Vec Ideal S8x512x16000 .f32} {b : Fin 8} {j : ℕ} {x : Vec Ideal S1x512x3200 .f32} (hj : j < 5)
    (hx : IsBlock X b j x) (g bias : Vec Ideal S1x512x1 .f32) (r : Fin 512) (p : Fin 3200)
    (hp : 3200 * j + p.val < 16000) {gain shift : EReal} (hg : g (ix3 0 r 0) = gain) (hb : bias (ix3 0 r 0) = shift) :
    blockOut x g bias (before X b j) j (ix3 0 r p) =
      normOf (X (ix3 b r ⟨3200 * j + p.val, hp⟩)) (upTo (frameSum X b 0) (3200 * j + p.val))
        (upTo (frameSum X b 1) (3200 * j + p.val)) (3200 * j + p.val) gain shift := by
  rw [← hg, ← hb, ← total_eq hj hx 0 p.val p.isLt, ← total_eq hj hx 1 p.val p.isLt, ← hx r p hp]
  rfl

variable (m : (ℓ : Loc nD τ sig) → Buf (Elt Ideal) ℓ)

/-- The numbers to normalise, the first argument. -/
def argX (c : Dev nD) : Vec Ideal S8x512x16000 .f32 := m ((c : Thread nD τ).loc main_arg0)
/-- The gains, the second argument. -/
def argG (c : Dev nD) : Vec Ideal S8x512x1 .f32 := m ((c : Thread nD τ).loc main_arg1)
/-- The biases, the third argument. -/
def argB (c : Dev nD) : Vec Ideal S8x512x1 .f32 := m ((c : Thread nD τ).loc main_arg2)

/-- Where the windows' blocks lie at point `t` of the grid: batch `t / 5`, block `t % 5`. -/
theorem point_facts : ∀ t : Fin cfg0.N, (grid0.coords t 1).val = t.val % 5 ∧
    win0_0.index t (0 : Fin 3) = t.val / 5 ∧ win0_0.index t (1 : Fin 3) = 0 ∧ win0_0.index t (2 : Fin 3) = t.val % 5 ∧
    win0_1.index t (0 : Fin 3) = t.val / 5 ∧ win0_1.index t (1 : Fin 3) = 0 ∧ win0_1.index t (2 : Fin 3) = 0 ∧
    win0_2.index t (0 : Fin 3) = t.val / 5 ∧ win0_2.index t (1 : Fin 3) = 0 ∧ win0_2.index t (2 : Fin 3) = 0 :=
  (by decide +kernel : ∀ t : Fin grid0.N, _)

/-- The batch of a grid point. -/
def batchOf (t : Fin cfg0.N) : Fin 8 := ⟨t.val / 5, by have := lt_of_lt_of_eq t.isLt N_0; omega⟩

/-- What the kernel is handed of the first argument at a grid point is block `t % 5` of batch `t / 5`. -/
theorem isBlock_x (c : Dev nD) (t : Fin cfg0.N) : IsBlock (argX m c) (batchOf t) (t.val % 5) (iblk m c 0 t) := by
  intro r p h
  obtain ⟨-, e0, e1, e2, -⟩ := point_facts t
  unfold argX batchOf
  blk_ext [iblk, V_main_arg0, e0, e1, e2]

/-- What it is handed of the gains are those of the batch. -/
theorem block_g (c : Dev nD) (t : Fin cfg0.N) (r : Fin 512) :
    (iblk m c 1 t : Vec Ideal S1x512x1 .f32) (ix3 0 r 0) = argG m c (ix3 (batchOf t) r 0) := by
  obtain ⟨-, -, -, -, e0, e1, e2, -⟩ := point_facts t
  unfold argG batchOf
  blk_ext [iblk, V_main_arg1, e0, e1, e2]

/-- What it is handed of the biases are those of the batch. -/
theorem block_b (c : Dev nD) (t : Fin cfg0.N) (r : Fin 512) :
    (iblk m c 2 t : Vec Ideal S1x512x1 .f32) (ix3 0 r 0) = argB m c (ix3 (batchOf t) r 0) := by
  obtain ⟨-, -, -, -, -, -, -, e0, e1, e2⟩ := point_facts t
  unfold argB batchOf
  blk_ext [iblk, V_main_arg2, e0, e1, e2]

/-- The state after the first point of a batch. -/
theorem first_point (c : Dev nD) (t : Fin cfg0.N) (h0 : t.val % 5 = 0) :
    outsAt0 m c t.val t.isLt = (blockOut (iblk m c 0 t) (iblk m c 1 t) (iblk m c 2 t) noCarry (t.val % 5),
      blockCarry (iblk m c 0 t) noCarry) := by
  rw [outsAt0_A m c t h0, out_A, carry_A, (point_facts t).1]

/-- The state after any other point, from the sums the point before left. -/
theorem later_point (c : Dev nD) (t : Fin cfg0.N) (h0 : ¬t.val % 5 = 0) :
    outsAt0 m c t.val t.isLt =
      (blockOut (iblk m c 0 t) (iblk m c 1 t) (iblk m c 2 t)
        (outsAt0 m c (t.val - 1) (Nat.lt_of_le_of_lt (Nat.sub_le _ _) t.isLt)).2 (t.val % 5),
      blockCarry (iblk m c 0 t) (outsAt0 m c (t.val - 1) (Nat.lt_of_le_of_lt (Nat.sub_le _ _) t.isLt)).2) := by
  rw [outsAt0_B m c t h0, out_B, carry_B, (point_facts t).1]

/-- What is carried over after point `n`: everything of the batch up to the end of its block. -/
theorem carried (c : Dev nD) : ∀ (n : ℕ) (hn : n < cfg0.N),
    (outsAt0 m c n hn).2 = before (argX m c) (batchOf ⟨n, hn⟩) (n % 5 + 1) := by
  intro n
  induction n with
  | zero =>
    intro hn
    rw [first_point m c ⟨0, hn⟩ rfl]
    dsimp only
    rw [← before_zero (argX m c) (batchOf ⟨0, hn⟩)]
    exact blockCarry_eq (by omega) (isBlock_x m c ⟨0, hn⟩)
  | succ n ih =>
    intro hn
    by_cases h0 : (n + 1) % 5 = 0
    · rw [first_point m c ⟨n + 1, hn⟩ h0]
      dsimp only
      rw [← before_zero (argX m c) (batchOf ⟨n + 1, hn⟩), h0]
      have hb := isBlock_x m c ⟨n + 1, hn⟩
      dsimp only at hb
      rw [h0] at hb
      exact blockCarry_eq (by omega) hb
    · rw [later_point m c ⟨n + 1, hn⟩ h0]
      dsimp only
      have e : (outsAt0 m c n (Nat.lt_of_succ_lt hn)).2 = before (argX m c) (batchOf ⟨n + 1, hn⟩) ((n + 1) % 5) := by
        rw [ih (Nat.lt_of_succ_lt hn), show batchOf ⟨n, Nat.lt_of_succ_lt hn⟩ = batchOf ⟨n + 1, hn⟩ from
          Fin.ext (show n / 5 = (n + 1) / 5 by omega), show n % 5 + 1 = (n + 1) % 5 by omega]
      change blockCarry (iblk m c 0 ⟨n + 1, hn⟩) (outsAt0 m c n (Nat.lt_of_succ_lt hn)).2 = _
      rw [e]
      exact blockCarry_eq (Nat.mod_lt _ (by omega)) (isBlock_x m c ⟨n + 1, hn⟩)

/-- What point `t` writes. -/
theorem written (c : Dev nD) (t : Fin cfg0.N) :
    (outsAt0 m c t.val t.isLt).1 = blockOut (iblk m c 0 t) (iblk m c 1 t) (iblk m c 2 t)
      (before (argX m c) (batchOf t) (t.val % 5)) (t.val % 5) := by
  by_cases h0 : t.val % 5 = 0
  · rw [first_point m c t h0, h0, before_zero]
  · rw [later_point m c t h0, carried]
    dsimp only
    rw [show batchOf ⟨t.val - 1, Nat.lt_of_le_of_lt (Nat.sub_le _ _) t.isLt⟩ = batchOf t from
      Fin.ext (show (t.val - 1) / 5 = t.val / 5 by omega), show (t.val - 1) % 5 + 1 = t.val % 5 by omega]

/-- The result at batch `b`, channel `r`, frame `q`. -/
theorem result_apply (c : Dev nD) (b : Fin 8) (r : Fin 512) (q : Fin 16000) :
    (G3 m c : Vec Ideal S8x512x16000 .f32) (ix3 b r q) =
      normalised (argX m c) (argG m c) (argB m c) (ix3 b r q) := by
  have hp : pt3Of (ix3 b r q) = 5 * b.val + q.val / 3200 := by
    change 5 * (b.val / 1 - 0) + 5 * (r.val / 512 - 0) + 1 * (q.val / 3200 - 0) = _
    omega
  have ht : pt3Of (ix3 b r q) < cfg0.N := lt_of_lt_of_eq (by omega) N_0.symm
  have hb : batchOf ⟨pt3Of (ix3 b r q), ht⟩ = b := Fin.ext (show pt3Of (ix3 b r q) / 5 = b.val by omega)
  have hl : loc3Of (ix3 b r q) = ix3 0 r ⟨q.val % 3200, Nat.mod_lt _ (by omega)⟩ := by
    funext a
    apply Fin.ext
    fin_cases a
    · change b.val % 1 = 0; omega
    · change r.val % 512 = r.val; omega
    · rfl
  have hq : 3200 * (pt3Of (ix3 b r q) % 5) + q.val % 3200 = q.val := by omega
  have w := congrFun (written m c ⟨pt3Of (ix3 b r q), ht⟩) (loc3Of (ix3 b r q))
  rw [outsAt0_sweep] at w
  unfold G3
  rw [dif_pos ht]
  refine w.trans ?_
  rw [hl]
  refine (blockOut_apply (Nat.mod_lt _ (by omega)) (isBlock_x m c ⟨pt3Of (ix3 b r q), ht⟩) _ _ r _
    (by dsimp only; omega) (block_g m c _ r) (block_b m c _ r)).trans ?_
  rw [hb]
  dsimp only
  simp only [hq]
  rfl

/-- The result array is the specification. -/
theorem result (c : Dev nD) : G3 m c = normalised (argX m c) (argG m c) (argB m c) := by
  funext i
  have hi : i = ix3 (i 0) (i 1) (i 2) := by
    funext a
    fin_cases a <;> rfl
  rw [hi]
  exact result_apply m c (i 0) (i 1) (i 2)

end Cert.KernelIdeal.ValueProof

end
-- ==== Proof.Reference.lean ====
module

public import proofs.«01_k».proof.Proof.Array
public import proofs.«01_k».proof.Proof.Gen.ReferenceIdeal.Run

/-!
  # What the reference computes

  The reference sums over the channels, takes the running sum along the frames as a sum over a window of all 16000
  frames padded on the left, and normalises. The windowed sum is a prefix sum (`prefix_sum`), and the reference's result is the specification
  (`reference_result`).
-/

@[expose] public section

set_option maxRecDepth 16384

noncomputable section

namespace Cert.KernelIdeal.ValueProof

open Idealize.ShloMosaic Idealize.ShloMosaic.TcCoe Idealize.SL.Sem

/-- Adding the terms of a list one after the other to zero is the sum. -/
theorem foldl_add {n : ℕ} (f : Fin n → EReal) :
    (List.finRange n).foldl (fun r k => r + f k) 0 = ∑ k, f k := by
  rw [← List.sum_ofFn, List.ofFn_eq_map, List.sum_eq_foldl, List.foldl_map]

/-- A window of `n = l + 1` places whose last place is frame `q` holds the frames up to `q`; what lies to the left of
    the first frame counts as zero. -/
theorem window_sum (f : ℕ → EReal) (n l q : ℕ) (hn : n = l + 1) (hq : q < n) :
    ∑ k ∈ Finset.range n, (if l ≤ q + k then f (q + k - l) else 0) = upTo f q := by
  have e : n = (l - q) + (q + 1) := by omega
  rw [e, Finset.sum_range_add, Finset.sum_eq_zero, zero_add, upTo]
  · refine Finset.sum_congr rfl fun k _ => ?_
    rw [if_pos (by omega)]
    congr 1
    omega
  · intro k hk
    have := Finset.mem_range.mp hk
    rw [if_neg (by omega)]

/-- Row `b` of an array of `n` columns as a function of the naturals, zero past the last column. -/
def lane {A n : ℕ} (v : (⟨3, ![A, 1, n]⟩ : Shape).Idx → EReal) (b : Fin A) (p : ℕ) : EReal :=
  if h : p < n then v (ix3 b 0 ⟨p, h⟩) else 0

/-- A windowed sum from zero is the sum over the places of the window. -/
theorem window_places {s t u : Shape} (window strides lo hi : Fin s.rank → ℕ) (v : FVec Ideal s .f32)
    (init : FVec Ideal u .f32) (h : s.ReduceWindows window strides lo hi t) (hu : 0 < u.numel)
    (h0 : init (Shape.Idx.first hu) = (0 : EReal)) (j : t.Idx) :
    Host.reduceWindowAdd window strides lo hi v init h hu j =
      ∑ k : (⟨s.rank, window⟩ : Shape).Idx,
        if hin : ∀ a, lo a ≤ (j (a.cast h.1.symm)).val * strides a + (k a).val ∧
            (j (a.cast h.1.symm)).val * strides a + (k a).val - lo a < s.size a then
          v (fun a => ⟨(j (a.cast h.1.symm)).val * strides a + (k a).val - lo a, (hin a).2⟩) else (0 : EReal) := by
  rw [← Equiv.sum_comp (⟨s.rank, window⟩ : Shape).rowMajor.symm, ← foldl_add]
  change Ideal.hostReduceWindowAdd window strides lo hi h v (init (Shape.Idx.first hu)) j = _
  rw [h0]
  unfold Ideal.hostReduceWindowAdd Host.reduceWindow
  dsimp only
  congr 1
  funext r k
  congr 1
  split_ifs <;> rfl

/-- A sum over a window as long as the row, padded on the left up to the last place, is the prefix sum of the row. -/
theorem prefix_sum {A n l : ℕ} (hn : n = l + 1) {u : Shape} (v : FVec Ideal ⟨3, ![A, 1, n]⟩ .f32) (init : FVec Ideal u .f32)
    (h : (⟨3, ![A, 1, n]⟩ : Shape).ReduceWindows (![1, 1, n] : Fin 3 → ℕ) ![1, 1, 1] ![0, 0, l] ![0, 0, 0]
      ⟨3, ![A, 1, n]⟩) (hu : 0 < u.numel) (h0 : init (Shape.Idx.first hu) = (0 : EReal)) (b : Fin A) (q : Fin n) :
    Host.reduceWindowAdd (s := ⟨3, ![A, 1, n]⟩) (t := ⟨3, ![A, 1, n]⟩) (![1, 1, n] : Fin 3 → ℕ) ![1, 1, 1] ![0, 0, l]
      ![0, 0, 0] v init h hu (ix3 b 0 q) = upTo (lane v b) q.val := by
  rw [window_places _ _ _ _ _ _ _ _ h0, ← window_sum _ n l q.val hn q.isLt, Finset.sum_range]
  refine (sum_idx3 (n0 := 1) (n1 := 1) (n2 := n) _).trans ?_
  rw [Fin.sum_univ_one, Fin.sum_univ_one]
  refine Finset.sum_congr rfl fun k _ => ?_
  by_cases hk : l ≤ q.val + k.val
  · have hlt : q.val + k.val - l < n := by omega
    rw [if_pos hk, lane, dif_pos hlt, dif_pos]
    · refine congrArg v (funext fun a => ?_)
      match a with
      | ⟨0, _⟩ => exact Fin.ext (by simp)
      | ⟨1, _⟩ => exact Fin.ext (by simp)
      | ⟨2, _⟩ => exact Fin.ext (by simp)
    · intro a
      match a with
      | ⟨0, _⟩ => simp
      | ⟨1, _⟩ => simp
      | ⟨2, _⟩ => simpa using ⟨hk, hlt⟩
  · rw [if_neg hk, dif_neg]
    intro hin
    exact hk (by simpa using (hin 2).1)

section Terms

open Cert.ReferenceIdeal Cert.ReferenceIdeal.Gen

/-- The running sums of an array as the reference computes them: the channels summed, then the window. -/
def refSums (Y : FVec Ideal S8x512x16000 .f32) : FVec Ideal S8x1x16000 .f32 :=
  Host.reduceWindowAdd ![1, 1, 16000] ![1, 1, 1] ![0, 0, 15999] ![0, 0, 0]
    (broadcastInDim S8x1x16000 ![0, 2] bcast_S8x16000_S8x1x16000_0_2
      (Host.reduceAdd Y (constant S_ .f32 0x00000000#32) reducesTo_S8x512x16000_S8x16000_d1 h_S_))
    (broadcastInDim S_ ![] bcast_S_S_ (constant S_ .f32 0x00000000#32))
    reduceWindows_S8x1x16000_S8x1x16000_w1s1p0_0_w1s1p0_0_w16000s1p15999_0 h_S_

/-- The counts as the reference computes them. -/
def refCount : FVec Ideal S8x1x16000 .f32 :=
  broadcastInDim S8x1x16000 ![0, 1, 2] bcast_S1x1x16000_S8x1x16000_0_1_2
    (broadcastInDim S1x1x16000 ![2] bcast_S16000_S1x1x16000_2
      (mulf (addf (broadcastInDim S16000 ![] bcast_S_S16000 (constant S_ .f32 0x3F800000#32))
        (sitofp .f32 (iotaInDim S16000 32 0))) (broadcastInDim S16000 ![] bcast_S_S16000 (constant S_ .f32 0x44000000#32))))

/-- The running means of an array: the running sums over the counts. -/
def refMean (Y : FVec Ideal S8x512x16000 .f32) : FVec Ideal S8x1x16000 .f32 := Host.divf (refSums Y) refCount

/-- The reciprocals of the running standard deviations. -/
def refRstd (X : FVec Ideal S8x512x16000 .f32) : FVec Ideal S8x1x16000 .f32 :=
  Host.rsqrt (addf (subf (refMean (mulf X X)) (mulf (refMean X) (refMean X)))
    (broadcastInDim S8x1x16000 ![] bcast_S_S8x1x16000 (constant S_ .f32 0x322BCC77#32)))

/-- The reference's result as a function of its three arguments. -/
def refOf (X : FVec Ideal S8x512x16000 .f32) (G B : FVec Ideal S8x512x1 .f32) : FVec Ideal S8x512x16000 .f32 :=
  addf (mulf (mulf (broadcastInDim S8x512x16000 ![0, 1, 2] bcast_S8x512x1_S8x512x16000_0_1_2 G)
      (subf X (broadcastInDim S8x512x16000 ![0, 1, 2] bcast_S8x1x16000_S8x512x16000_0_1_2 (refMean X))))
    (broadcastInDim S8x512x16000 ![0, 1, 2] bcast_S8x1x16000_S8x512x16000_0_1_2 (refRstd X)))
    (broadcastInDim S8x512x16000 ![0, 1, 2] bcast_S8x512x1_S8x512x16000_0_1_2 B)

/-- The running sum at frame `q` is the sum over the frames up to `q` of the sums over the channels. -/
theorem refSums_apply (X Y : FVec Ideal S8x512x16000 .f32) (h : Fin 2)
    (hY : ∀ (b : Fin 8) (r : Fin 512) (q : Fin 16000), Y (ix3 b r q) = power h (X (ix3 b r q))) (b : Fin 8)
    (q : Fin 16000) : refSums Y (ix3 b 0 q) = upTo (frameSum X b h) q.val := by
  refine (prefix_sum (l := 15999) rfl _ _ _ _ Ideal.ofBits_zero_f32 b q).trans ?_
  refine Finset.sum_congr rfl fun k _ => ?_
  unfold lane frameSum
  split
  · next hk =>
    pointwise
    exact Finset.sum_congr rfl fun r _ => hY b r ⟨k, hk⟩
  · rfl

/-- The count at frame `q`. -/
theorem refCount_apply (b : Fin 8) (q : Fin 16000) : refCount (ix3 b 0 q) = count q.val := by
  rw [← count_reference q.val q.isLt, ← one_bits]
  unfold refCount
  pointwise
  rfl

/-- The running mean, of the numbers or of their squares, at frame `q`. -/
theorem refMean_apply (X Y : FVec Ideal S8x512x16000 .f32) (h : Fin 2)
    (hY : ∀ (b : Fin 8) (r : Fin 512) (q : Fin 16000), Y (ix3 b r q) = power h (X (ix3 b r q))) (b : Fin 8)
    (q : Fin 16000) : refMean Y (ix3 b 0 q) = meanOf (upTo (frameSum X b h) q.val) q.val := by
  rw [meanOf, ← refSums_apply X Y h hY b q, ← refCount_apply b q]
  rfl

/-- The running mean of the numbers. -/
theorem refMean_first (X : FVec Ideal S8x512x16000 .f32) (b : Fin 8) (q : Fin 16000) :
    refMean X (ix3 b 0 q) = meanOf (upTo (frameSum X b 0) q.val) q.val :=
  refMean_apply X X 0 (fun _ _ _ => rfl) b q

/-- The reciprocal of the running standard deviation at frame `q`. -/
theorem refRstd_apply (X : FVec Ideal S8x512x16000 .f32) (b : Fin 8) (q : Fin 16000) :
    refRstd X (ix3 b 0 q) = rstdOf (upTo (frameSum X b 0) q.val) (upTo (frameSum X b 1) q.val) q.val := by
  rw [rstdOf, ← refMean_first X b q, ← refMean_apply X (mulf X X) 1 (fun _ _ _ => rfl) b q]
  rfl

/-- The reference at one place. -/
theorem refOf_apply (X : FVec Ideal S8x512x16000 .f32) (G B : FVec Ideal S8x512x1 .f32) (b : Fin 8) (r : Fin 512)
    (q : Fin 16000) :
    refOf X G B (ix3 b r q) =
      G (ix3 b r 0) * (X (ix3 b r q) - refMean X (ix3 b 0 q)) * refRstd X (ix3 b 0 q) + B (ix3 b r 0) := by
  unfold refOf
  pointwise

/-- The reference's result is the specification. -/
theorem reference_result (X : FVec Ideal S8x512x16000 .f32) (G B : FVec Ideal S8x512x1 .f32) :
    refOf X G B = normalised X G B := by
  have at_place (b : Fin 8) (r : Fin 512) (q : Fin 16000) :
      refOf X G B (ix3 b r q) = normalised X G B (ix3 b r q) := by
    rw [refOf_apply, refMean_first, refRstd_apply, mul_comm (G _), mul_right_comm]
    rfl
  funext i
  have hi : i = ix3 (i 0) (i 1) (i 2) := eq_ix3 i
  rw [hi]
  exact at_place (i 0) (i 1) (i 2)

end Terms

end Cert.KernelIdeal.ValueProof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were, and it has no semaphores. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Run from memories that agree on the arguments, the kernel and the reference end with the same result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.KernelIdeal.ValueProof.reference_result _ _ _).trans (Cert.KernelIdeal.ValueProof.result m c).symm

/-- Everything that is claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
